-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_or_ignored [hPre_classes_or_ignored : Cert.Pre_classes_or_ignored.Facts] (m : (ℓ : Loc Cert.KernelIdeal.nD Cert.KernelIdeal.τ Cert.KernelIdeal.sig) → Buf (Elt Ideal) ℓ) : Prop :=
  ∀ c : Dev Cert.KernelIdeal.nD,
    (Cert.Pre_classes_or_ignored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_or_ignored [hPre_classes_or_ignored : Cert.Pre_classes_or_ignored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_or_ignored.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_classes_or_ignored [hKernelIdeal : Cert.KernelIdeal.Facts] [hPre_classes_or_ignored : Cert.Pre_classes_or_ignored.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_or_ignored m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_classes_or_ignored [hReferenceIdeal : Cert.ReferenceIdeal.Facts] [hPre_classes_or_ignored : Cert.Pre_classes_or_ignored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_or_ignored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_classes_or_ignored [hKernelIdeal : Cert.KernelIdeal.Facts] [hReferenceIdeal : Cert.ReferenceIdeal.Facts] [hPre_classes_or_ignored : Cert.Pre_classes_or_ignored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_or_ignored m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_classes_or_ignored : Cert.Pre_classes_or_ignored.Facts),
    quiescent_Kernel (hKernel := hKernel)
    ∧ quiescent_KernelIdeal (hKernelIdeal := hKernelIdeal)
    ∧ quiescent_KernelIdeal_pre_classes_or_ignored (hKernelIdeal := hKernelIdeal) (hPre_classes_or_ignored := hPre_classes_or_ignored)
    ∧ quiescent_ReferenceIdeal (hReferenceIdeal := hReferenceIdeal)
    ∧ quiescent_ReferenceIdeal_pre_classes_or_ignored (hReferenceIdeal := hReferenceIdeal) (hPre_classes_or_ignored := hPre_classes_or_ignored)
    ∧ preserves_Kernel_KernelIdeal
    ∧ algebraic_KernelIdeal_ReferenceIdeal_pre_classes_or_ignored (hKernelIdeal := hKernelIdeal) (hReferenceIdeal := hReferenceIdeal) (hPre_classes_or_ignored := hPre_classes_or_ignored)
-- ==== Pre_classes_or_ignored.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 32 := constantI S_ 32 19#32
  let main_v6 : IVec S8x512x512 32 := broadcastInDim S8x512x512 ![] bcast_S_S8x512x512 main_c_1
  let main_v7 : IVec S8x512x512 1 := cmpi .slt main_arg1 main_v6
  let main_v8 : IVec S8x512x512 1 := andi main_v5 main_v7
  let main_c_2 : IVec S_ 32 := constantI S_ 32 255#32
  let main_v9 : IVec S8x512x512 32 := broadcastInDim S8x512x512 ![] bcast_S_S8x512x512 main_c_2
  let main_v10 : IVec S8x512x512 1 := cmpi .eq main_arg1 main_v9
  let main_v11 : IVec S8x512x512 1 := ori main_v8 main_v10
  let main_c_3 : IVec S_ 1 := constantI S_ 1 1#1
  let main_v12 : IVec S_ 1 := (fun x v => Host.reduce IntOp.andi x v reducesTo_S8x512x512_S_d0_1_2 h_S_) main_v11 main_c_3
  let main_v13 : IVec S_ 1 := andi main_v3 main_v12
  main_v13
-- ==== Kernel.lean ====
abbrev S8x19x512x512 : Shape := ⟨4, ![8, 19, 512, 512]⟩
abbrev S8x512x512 : Shape := ⟨3, ![8, 512, 512]⟩
abbrev S1x19x128x512 : Shape := ⟨4, ![1, 19, 128, 512]⟩
abbrev S1x128x512 : Shape := ⟨3, ![1, 128, 512]⟩
abbrev S128x512 : Shape := ⟨2, ![128, 512]⟩
abbrev S1x1x128x512 : Shape := ⟨4, ![1, 1, 128, 512]⟩
abbrev S2097152 : Shape := ⟨1, ![2097152]⟩
abbrev S524288 : Shape := ⟨1, ![524288]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x512x512, .f32⟩
  | .hbm, ⟨3, _⟩ => ⟨S2097152, .f32⟩
  | .hbm, ⟨4, _⟩ => ⟨S2097152, .f32⟩
  | .hbm, ⟨5, _⟩ => ⟨S2097152, .f32⟩
  | .hbm, ⟨6, _⟩ => ⟨S524288, .f32⟩
  | .hbm, ⟨7, _⟩ => ⟨S524288, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x19x128x512, .f32⟩
  | .local _ .vmem, ⟨1, _⟩ => ⟨S1x19x128x512, .f32⟩
  | .local _ .vmem, ⟨2, _⟩ => ⟨S1x128x512, .i32⟩
  | .local _ .vmem, ⟨3, _⟩ => ⟨S1x128x512, .i32⟩
  | .local _ .vmem, ⟨4, _⟩ => ⟨S1x128x512, .f32⟩
  | .local _ .vmem, ⟨5, _⟩ => ⟨S1x128x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x19x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S2097152 : Shape := ⟨1, ![2097152]⟩
abbrev S524288 : Shape := ⟨1, ![524288]⟩

abbrev nBuf : Space → Nat
  | .hbm => 62
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x19x512x512, .f32⟩
  | .hbm, ⟨9, _⟩ => ⟨S8x19x512x512, .f32⟩
  | .hbm, ⟨10, _⟩ => ⟨S8x19x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x1x512x512, .f32⟩
  | .hbm, ⟨15, _⟩ => ⟨S8x19x512x512, .f32⟩
  | .hbm, ⟨16, _⟩ => ⟨S8x19x512x512, .f32⟩
  | .hbm, ⟨17, _⟩ => ⟨S_, .i32⟩
  | .hbm, ⟨18, _⟩ => ⟨S8x512x512, .i32⟩
  | .hbm, ⟨19, _⟩ => ⟨S8x512x512, .i1⟩
  | .hbm, ⟨20, _⟩ => ⟨S_, .i32⟩
  | .hbm, ⟨21, _⟩ => ⟨S_, .i32⟩
  | .hbm, ⟨22, _⟩ => ⟨S8x512x512, .i32⟩
  | .hbm, ⟨23, _⟩ => ⟨S8x512x512, .i32⟩
  | .hbm, ⟨24, _⟩ => ⟨S8x1x512x512, .i32⟩
  | .hbm, ⟨25, _⟩ => ⟨S_, .i32⟩
  | .hbm, ⟨26, _⟩ => ⟨S8x1x512x512, .i32⟩
  | .hbm, ⟨27, _⟩ => ⟨S8x1x512x512, .i1⟩
  | .hbm, ⟨28, _⟩ => ⟨S_, .i32⟩
  | .hbm, ⟨29, _⟩ => ⟨S8x1x512x512, .i32⟩
  | .hbm, ⟨30, _⟩ => ⟨S8x1x512x512, .i32⟩
  | .hbm, ⟨31, _⟩ => ⟨S8x1x512x512, .i32⟩
  | .hbm, ⟨32, _⟩ => ⟨S8x1x512x512x1, .i32⟩
  | .hbm, ⟨33, _⟩ => ⟨S1, .i32⟩
  | .hbm, ⟨34, _⟩ => ⟨S_, .i32⟩
  | .hbm, ⟨35, _⟩ => ⟨S8x1x512x512x1, .i32⟩
  | .hbm, ⟨36, _⟩ => ⟨S8x1x512x512x1, .i1⟩
  | .hbm, ⟨37, _⟩ => ⟨S1x1x1x1x1, .i32⟩
  | .hbm, ⟨38, _⟩ => ⟨S8x1x512x512x1, .i32⟩
  | .hbm, ⟨39, _⟩ => ⟨S8x1x512x512x1, .i1⟩
  | .hbm, ⟨40, _⟩ => ⟨S8x1x512x512x1, .i1⟩
  | .hbm, ⟨41, _⟩ => ⟨S_, .i1⟩
  | .hbm, ⟨42, _⟩ => ⟨S8x1x512x512, .i1⟩
  | .hbm, ⟨43, _⟩ => ⟨S8x1x512x512, .f32⟩
  | .hbm, ⟨44, _⟩ => ⟨S_, .f32⟩
  | .hbm, ⟨45, _⟩ => ⟨S8x1x512x512, .f32⟩
  | .hbm, ⟨46, _⟩ => ⟨S8x1x512x512, .f32⟩
  | .hbm, ⟨47, _⟩ => ⟨S8x512x512, .f32⟩
  | .hbm, ⟨48, _⟩ => ⟨S8x512x512, .f32⟩
  | .hbm, ⟨49, _⟩ => ⟨S_, .f32⟩
  | .hbm, ⟨50, _⟩ => ⟨S_, .f32⟩
  | .hbm, ⟨51, _⟩ => ⟨S8x512x512, .f32⟩
  | .hbm, ⟨52, _⟩ => ⟨S8x512x512, .f32⟩
  | .hbm, ⟨53, _⟩ => ⟨S2097152, .f32⟩
  | .hbm, ⟨54, _⟩ => ⟨S2097152, .f32⟩
  | .hbm, ⟨55, _⟩ => ⟨S2097152, .f32⟩
  | .hbm, ⟨56, _⟩ => ⟨S2097152, .f32⟩
  | .hbm, ⟨57, _⟩ => ⟨S524288, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v3 : Ref sig .tc := ⟨.hbm, 23, rfl⟩
abbrev main_v4 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst : Ref sig .tc := ⟨.hbm, 49, rfl⟩
abbrev main_call3_v0 : Ref sig .tc := ⟨.hbm, 50, rfl⟩
abbrev main_call3_v1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst_1 : Ref sig .tc := ⟨.hbm, 58, rfl⟩
abbrev main_v14 : Ref sig .tc := ⟨.hbm, 59, rfl⟩
abbrev main_cst_2 : Ref sig .tc := ⟨.hbm, 60, rfl⟩
abbrev main_v15 : Ref sig .tc := ⟨.hbm, 61, rfl⟩

abbrev nD : Nat := 1
abbrev τ : Topo := Topo.v7x

variable {F : FTy → Type} [FloatOps F]
-- ==== Proof.Pixel.lean ====
/- The mathematics of one pixel: nineteen logits and a label give a loss. The kernel's formula and the reference's are
   written down as functions of the nineteen logits and the label, over the extended reals, and shown equal wherever the
   logits are finite and the label is a class or the ignored one. No program stands in this file. -/
module

public import Idealize.ShloMosaic.Lib.Pointwise

@[expose] public section

noncomputable section

namespace Cert.Pixel

open Idealize.ShloMosaic

/-! ## The kernel's formula -/

/-- The largest of a pixel's nineteen logits, taken in the order in which the kernel takes it. -/
def top (x : Fin 19 → EReal) : EReal :=
  max (max (max (max (max (max (max (max (max (max (max (max (max (max (max (max (max (max (x 0) (x 1)) (x 2)) (x 3)) (x 4)) (x 5)) (x 6)) (x 7)) (x 8)) (x 9)) (x 10)) (x 11)) (x 12)) (x 13)) (x 14)) (x 15)) (x 16)) (x 17)) (x 18)

/-- The sum of the exponentials of a pixel's logits, each less `t`, in the order in which the kernel adds them. -/
def expSum (x : Fin 19 → EReal) (t : EReal) : EReal :=
  Ideal.exp (x 0 - t) + Ideal.exp (x 1 - t) + Ideal.exp (x 2 - t) + Ideal.exp (x 3 - t) + Ideal.exp (x 4 - t) + Ideal.exp (x 5 - t) + Ideal.exp (x 6 - t) + Ideal.exp (x 7 - t) + Ideal.exp (x 8 - t) + Ideal.exp (x 9 - t) + Ideal.exp (x 10 - t) + Ideal.exp (x 11 - t) + Ideal.exp (x 12 - t) + Ideal.exp (x 13 - t) + Ideal.exp (x 14 - t) + Ideal.exp (x 15 - t) + Ideal.exp (x 16 - t) + Ideal.exp (x 17 - t) + Ideal.exp (x 18 - t)

/-- The logit of the class that the label names, as the kernel picks it: nineteen selects, one after another. -/
def picked (x : Fin 19 → EReal) (l : BitVec 32) : EReal :=
  Scalar.select (IntOp.cmpi .eq l 18#32) (x 18) (Scalar.select (IntOp.cmpi .eq l 17#32) (x 17) (Scalar.select (IntOp.cmpi .eq l 16#32) (x 16) (Scalar.select (IntOp.cmpi .eq l 15#32) (x 15) (Scalar.select (IntOp.cmpi .eq l 14#32) (x 14) (Scalar.select (IntOp.cmpi .eq l 13#32) (x 13) (Scalar.select (IntOp.cmpi .eq l 12#32) (x 12) (Scalar.select (IntOp.cmpi .eq l 11#32) (x 11) (Scalar.select (IntOp.cmpi .eq l 10#32) (x 10) (Scalar.select (IntOp.cmpi .eq l 9#32) (x 9) (Scalar.select (IntOp.cmpi .eq l 8#32) (x 8) (Scalar.select (IntOp.cmpi .eq l 7#32) (x 7) (Scalar.select (IntOp.cmpi .eq l 6#32) (x 6) (Scalar.select (IntOp.cmpi .eq l 5#32) (x 5) (Scalar.select (IntOp.cmpi .eq l 4#32) (x 4) (Scalar.select (IntOp.cmpi .eq l 3#32) (x 3) (Scalar.select (IntOp.cmpi .eq l 2#32) (x 2) (Scalar.select (IntOp.cmpi .eq l 1#32) (x 1) (Scalar.select (IntOp.cmpi .eq l 0#32) (x 0) (0)))))))))))))))))))

/-- What the kernel writes at a pixel: the largest logit plus the logarithm of the sum of exponentials less the label's
    logit, zero where the label is the ignored one, and never below zero. -/
def kernelLoss (x : Fin 19 → EReal) (l : BitVec 32) : EReal :=
  max (Scalar.select (IntOp.cmpi .eq l 255#32) 0 (top x + Ideal.log (expSum x (top x)) - picked x l)) 0

/-! ## The reference's formula -/

/-- The reference's largest logit of a pixel. -/
def refTop (x : Fin 19 → EReal) : EReal :=
  max (Ideal.ofBits .f32 0xFF800000#32) (Finset.univ.fold max (Ideal.ofBits .f32 0xFF800000#32) x)

/-- The reference's log-softmax of a pixel's logits, at class `k`. -/
def logProb (x : Fin 19 → EReal) (k : Fin 19) : EReal :=
  (x k - refTop x) - Ideal.log (∑ j, Ideal.exp (x j - refTop x))

/-- The label with the ignored one replaced by class 0. -/
def safeLabel (l : BitVec 32) : BitVec 32 := Scalar.select (IntOp.cmpi .ne l 255#32) l 0#32

/-- The class that the reference looks up: the label, a negative one counted from the end. -/
def classOf (l : BitVec 32) : BitVec 32 :=
  Scalar.select (IntOp.cmpi .slt (safeLabel l) 0#32) (IntOp.addi (safeLabel l) 19#32) (safeLabel l)

/-- The reference's test that the class which it looks up is one of the nineteen. -/
def classInRange (l : BitVec 32) : BitVec 1 :=
  IntOp.andi (IntOp.cmpi .sge (classOf l) 0#32) (IntOp.cmpi .sle (classOf l) 18#32)

/-- What the reference gives at a pixel: the label's log-probability negated, zero where the label is the ignored one;
    `nan` stands for what it gives where the class is out of range. -/
def refLoss (nan : EReal) (x : Fin 19 → EReal) (l : BitVec 32) : EReal :=
  Scalar.select (IntOp.cmpi .ne l 255#32)
    (-(Scalar.select (classInRange l) (logProb x ⟨min (classOf l).toInt.toNat 18, by omega⟩) nan)) 0

/-! ## The two agree -/

/-- The kernel's running maximum is the maximum over the nineteen classes. -/
theorem top_eq (x : Fin 19 → EReal) : top x = Finset.univ.fold max ⊥ x := by
  refine le_antisymm ?_ ?_
  · have h : ∀ k, x k ≤ Finset.univ.fold max ⊥ x := fun k =>
      (Finset.le_fold_max _).mpr (Or.inr ⟨k, Finset.mem_univ _, le_rfl⟩)
    unfold top
    simp only [max_le_iff, h, and_self]
  · refine (Finset.fold_max_le _).mpr ⟨bot_le, fun k _ => ?_⟩
    unfold top
    fin_cases k <;> simp only [le_max_iff] <;> simp

/-- The kernel's running sum is the sum over the nineteen classes. -/
theorem expSum_eq (x : Fin 19 → EReal) (t : EReal) : expSum x t = ∑ k, Ideal.exp (x k - t) := by
  unfold expSum
  simp only [Fin.sum_univ_castSucc, Fin.sum_univ_zero, zero_add]
  rfl

/-- A class label picks its own logit. -/
theorem picked_class (x : Fin 19 → EReal) (k : Fin 19) : picked x (BitVec.ofNat 32 k) = x k := by
  fin_cases k <;> rfl

/-- The word for −∞. -/
theorem negInf : Ideal.ofBits .f32 0xFF800000#32 = (⊥ : EReal) := by
  simp [Ideal.ofBits, Ideal.ieee]

/-- The reference's maximum is the kernel's. -/
theorem refTop_eq (x : Fin 19 → EReal) : refTop x = top x := by
  rw [refTop, negInf, top_eq]
  exact max_eq_right bot_le

/-- The largest of finite logits is finite. -/
theorem top_real (r : Fin 19 → ℝ) : ∃ t : ℝ, top (fun k => (r k : EReal)) = t := by
  refine ⟨(top fun k => (r k : EReal)).toReal, (EReal.coe_toReal ?_ ?_).symm⟩
  · rw [top_eq]
    exact ne_of_lt ((Finset.fold_max_lt _).mpr ⟨bot_lt_top, fun k _ => EReal.coe_lt_top _⟩)
  · rw [top_eq]
    exact ne_of_gt ((Finset.lt_fold_max _).mpr (Or.inr ⟨0, Finset.mem_univ _, EReal.bot_lt_coe _⟩))

/-- A finite sum of reals is the same sum in the extended reals. -/
theorem coe_sum (s : Finset (Fin 19)) (f : Fin 19 → ℝ) : ((∑ k ∈ s, f k : ℝ) : EReal) = ∑ k ∈ s, (f k : EReal) := by
  induction s using Finset.induction_on with
  | empty => simp
  | insert a s h ih => rw [Finset.sum_insert h, Finset.sum_insert h, EReal.coe_add, ih]

/-- Over finite logits the sum of exponentials is the real one, whose logarithm is the real one. -/
theorem log_sum (r : Fin 19 → ℝ) (t : ℝ) :
    Ideal.log (∑ k, Ideal.exp ((r k : EReal) - (t : EReal))) = ((Real.log (∑ k, Real.exp (r k - t)) : ℝ) : EReal) := by
  have hs : (∑ k, Ideal.exp ((r k : EReal) - (t : EReal))) = ((∑ k, Real.exp (r k - t) : ℝ) : EReal) := by
    rw [coe_sum]
    refine Finset.sum_congr rfl fun k _ => ?_
    rw [← EReal.coe_sub, Ideal.exp_coe]
  have hp : 0 < ∑ k, Real.exp (r k - t) :=
    Finset.sum_pos (fun k _ => Real.exp_pos _) ⟨0, Finset.mem_univ _⟩
  rw [hs, Ideal.log_coe, if_neg (not_le.mpr hp)]

/-- The loss of a class is never negative: the sum of exponentials has the class's own among its terms. -/
theorem loss_nonneg (r : Fin 19 → ℝ) (t : ℝ) (k : Fin 19) : 0 ≤ t + Real.log (∑ j, Real.exp (r j - t)) - r k := by
  have h : Real.exp (r k - t) ≤ ∑ j, Real.exp (r j - t) :=
    Finset.single_le_sum (f := fun j => Real.exp (r j - t)) (fun j _ => (Real.exp_pos _).le) (Finset.mem_univ k)
  have h' := Real.log_le_log (Real.exp_pos _) h
  rw [Real.log_exp] at h'
  linarith

/-- A class is not the ignored label, in the kernel's test and in the reference's. -/
theorem class_ne_ignored : ∀ k : Fin 19, IntOp.cmpi .eq (BitVec.ofNat 32 k) 255#32 = 0#1
    ∧ IntOp.cmpi .ne (BitVec.ofNat 32 k) 255#32 = 1#1 := by decide

/-- A class passes the reference's range test, and is the class that the reference looks up. -/
theorem class_found : ∀ k : Fin 19, classInRange (BitVec.ofNat 32 k) = 1#1
    ∧ min (classOf (BitVec.ofNat 32 k)).toInt.toNat 18 = k := by decide

/-- At a pixel with a class for its label the kernel's loss is the reference's. -/
theorem class_agree (nan : EReal) (r : Fin 19 → ℝ) (k : Fin 19) :
    kernelLoss (fun j => (r j : EReal)) (BitVec.ofNat 32 k) = refLoss nan (fun j => (r j : EReal)) (BitVec.ofNat 32 k) := by
  obtain ⟨t, ht⟩ := top_real r
  have hk : kernelLoss (fun j => (r j : EReal)) (BitVec.ofNat 32 k)
      = ((t + Real.log (∑ j, Real.exp (r j - t)) - r k : ℝ) : EReal) := by
    unfold kernelLoss
    rw [(class_ne_ignored k).1, ValueIdx.select_zero, expSum_eq, ht, log_sum, picked_class, ← EReal.coe_add, ← EReal.coe_sub]
    exact max_eq_left (by exact_mod_cast loss_nonneg r t k)
  have hr : refLoss nan (fun j => (r j : EReal)) (BitVec.ofNat 32 k)
      = ((t + Real.log (∑ j, Real.exp (r j - t)) - r k : ℝ) : EReal) := by
    have hc : (⟨min (classOf (BitVec.ofNat 32 k)).toInt.toNat 18, by omega⟩ : Fin 19) = k := Fin.ext (class_found k).2
    unfold refLoss
    rw [(class_ne_ignored k).2, ValueIdx.select_one, (class_found k).1, ValueIdx.select_one, hc]
    unfold logProb
    rw [refTop_eq, ht, log_sum, ← EReal.coe_sub, ← EReal.coe_sub, ← EReal.coe_neg]
    congr 1
    ring
  rw [hk, hr]

/-- At an ignored pixel both give zero. -/
theorem ignored_agree (nan : EReal) (x : Fin 19 → EReal) : kernelLoss x 255#32 = refLoss nan x 255#32 := by
  have h1 : IntOp.cmpi .eq 255#32 255#32 = 1#1 := by decide
  have h2 : IntOp.cmpi .ne 255#32 255#32 = 0#1 := by decide
  unfold kernelLoss refLoss
  rw [h1, h2, ValueIdx.select_one, ValueIdx.select_zero]
  exact max_self _

/-- Where the logits are finite and the label is a class or the ignored one, the kernel's loss is the reference's. -/
theorem agree (nan : EReal) (x : Fin 19 → EReal) (l : BitVec 32) (hx : ∀ k, x k ≠ ⊤ ∧ x k ≠ ⊥)
    (hl : (∃ k : Fin 19, l = BitVec.ofNat 32 k) ∨ l = 255#32) : kernelLoss x l = refLoss nan x l := by
  rcases hl with ⟨k, rfl⟩ | rfl
  · have e : x = fun j => ((x j).toReal : EReal) := funext fun j => (EReal.coe_toReal (hx j).1 (hx j).2).symm
    rw [e]
    exact class_agree nan _ k
  · exact ignored_agree nan x

end Cert.Pixel

end
-- ==== Proof.Block.lean ====
/- What the kernel's body leaves in the block of losses, at one pixel of the block: the mathematics of one pixel
   (Pixel.lean) of the blocks of logits and labels there. -/
module

public import proofs.«01_k».proof.Proof.Gen.KernelIdeal.Frame
public import proofs.«01_k».proof.Proof.Pixel
public import Idealize.ShloMosaic.Lib.Pipeline.ValueKit

@[expose] public section

set_option maxRecDepth 16384

noncomputable section

namespace Cert.KernelIdeal.Gen

open Idealize.ShloMosaic Idealize.ShloMosaic.Pipeline

set_option maxHeartbeats 4000000 in
/-- The block of losses at a pixel is the kernel's formula of the pixel's nineteen logits and its label. -/
theorem block_at (x0 : Vec Ideal S1x19x128x512 .f32) (x1 : Vec Ideal S1x128x512 .i32) (a : Fin 128) (b : Fin 512) :
    out0_2 (F := Ideal) x0 x1 (ix3 0 a b) = Pixel.kernelLoss (fun k => x0 (ix4 0 k a b)) (x1 (ix3 0 a b)) := by
  unfold_out out0_2
  rw [View.canon_unit_zero (by funext a; fin_cases a <;> rfl)]
  unfold_payloads
  unfold Pixel.kernelLoss Pixel.expSum Pixel.picked Pixel.top
  pointwise

end Cert.KernelIdeal.Gen

end
-- ==== Proof.Array.lean ====
/- The array of losses that the kernel's launch leaves: the grid's thirty-two blocks tile it, and at every pixel of every
   image it holds the mathematics of one pixel (Pixel.lean) of the kernel's two arguments. -/
module

public import proofs.«01_k».proof.Proof.Block
public import Idealize.ShloMosaic.Lib.Pipeline.ValueKit

@[expose] public section

set_option maxRecDepth 16384

noncomputable section

namespace Cert.KernelIdeal.Gen

open Idealize.ShloMosaic Idealize.ShloMosaic.TcCoe Idealize.SL.Sem Idealize.ShloMosaic.Pipeline

/-- The losses of every pixel, from the logits and the labels. -/
def lossArray (x : FVec Ideal S8x19x512x512 .f32) (l : IVec S8x512x512 32) : FVec Ideal S8x512x512 .f32 := fun j =>
  Pixel.kernelLoss (fun k => x (ix4 (j 0) k (j 1) (j 2))) (l (ix3 (j 0) (j 1) (j 2)))

variable (m : (ℓ : Loc nD τ sig) → Buf (Elt Ideal) ℓ)

/-- Where each window's block stands at a grid point: image and band of rows, the classes and the columns whole. -/
theorem places (t : Fin grid0.N) :
    win0_0.index t = ![(grid0.coords t 0).val, 0, (grid0.coords t 1).val, 0]
      ∧ win0_1.index t = ![(grid0.coords t 0).val, (grid0.coords t 1).val, 0]
      ∧ win0_2.index t = ![(grid0.coords t 0).val, (grid0.coords t 1).val, 0] := by
  revert t; decide +kernel

/-- After the launch the array of losses holds every pixel's loss. -/
theorem array_eq (c : Dev nD) :
    (dats (F := Ideal) m 0 c).arrAt 2 (cfgs 0).N
      = lossArray (m ((c : Thread nD τ).loc main_arg0)) (m ((c : Thread nD τ).loc main_arg1)) := by
  refine (dats (F := Ideal) m 0 c).arrAt_eq_of_covers 2 _ (by decide +kernel) fun t hf y => ?_
  blk_simp
  rw [after0_2]
  obtain ⟨i0, i1, i2⟩ := places t
  idx_vars y
  obtain rfl : y0 = 0 := by omega
  rw [block_at]
  unfold lossArray
  congr 1
  · funext k
    blk_ext [iblk, V, i0, i2]
  · blk_ext [iblk, V, i1, i2]

end Cert.KernelIdeal.Gen

end
-- ==== Proof.RefArrays.lean ====
/- The reference's arrays, named one by one: the log-softmax, the class that each pixel looks up, the losses, and the mean
   of the largest quarter. -/
module

public import proofs.«01_k».proof.Proof.Gen.ReferenceIdeal
public import Idealize.ShloMosaic.PureOps.Ideal

@[expose] public section

set_option maxRecDepth 16384

noncomputable section

namespace Cert.ReferenceIdeal.Gen

open Idealize.ShloMosaic

/-- The array of logits, over the extended reals. -/
abbrev Logits := FVec Ideal S8x19x512x512 .f32
/-- The array of labels. -/
abbrev Labels := IVec S8x512x512 32

/-- An array with one entry for each pixel, spread over the nineteen classes. -/
def spread (r : FVec Ideal S8x512x512 .f32) : Logits :=
  broadcastInDim S8x19x512x512 ![0, 1, 2, 3] bcast_S8x1x512x512_S8x19x512x512_0_1_2_3
    (broadcastInDim S8x1x512x512 ![0, 2, 3] bcast_S8x512x512_S8x1x512x512_0_2_3 r)

/-- The maximum of each pixel's logits. -/
def rowMax (x : Logits) : FVec Ideal S8x512x512 .f32 :=
  Host.reduce FloatOps.maximumf x (constant S_ .f32 0xFF800000#32) reducesTo_S8x19x512x512_S8x512x512_d1 h_S_

/-- That maximum, once more compared with −∞. -/
def peak (r : FVec Ideal S8x512x512 .f32) : FVec Ideal S8x512x512 .f32 :=
  maximumf (broadcastInDim S8x512x512 ![] bcast_S_S8x512x512 (constant S_ .f32 0xFF800000#32)) r

/-- The logits less an array of one entry for each pixel. -/
def less (x : Logits) (r : FVec Ideal S8x512x512 .f32) : Logits := subf x (spread r)

/-- The logits less their pixel's maximum. -/
def shifted (x : Logits) : Logits := less x (peak (rowMax x))

/-- From the shifted logits, the logarithm of the sum of exponentials taken off. -/
def normalised (y : Logits) : Logits :=
  subf y (broadcastInDim S8x19x512x512 ![0, 1, 2, 3] bcast_S8x1x512x512_S8x19x512x512_0_1_2_3
    (Host.log (broadcastInDim S8x1x512x512 ![0, 2, 3] bcast_S8x512x512_S8x1x512x512_0_2_3
      (Host.reduceAdd (Host.exp y) (constant S_ .f32 0x00000000#32) reducesTo_S8x19x512x512_S8x512x512_d1 h_S_))))

/-- The log-softmax of the logits over the classes. -/
def logSoftmax (x : Logits) : Logits := normalised (shifted x)

/-- Where the label is not the ignored one. -/
def valid (l : Labels) : IVec S8x512x512 1 :=
  cmpi .ne l (broadcastInDim S8x512x512 ![] bcast_S_S8x512x512 (constantI S_ 32 255#32))

/-- The labels with the ignored one replaced by class 0. -/
def safe (l : Labels) : IVec S8x1x512x512 32 :=
  broadcastInDim S8x1x512x512 ![0, 2, 3] bcast_S8x512x512_S8x1x512x512_0_2_3
    (select (valid l) l (broadcastInDim S8x512x512 ![] bcast_S_S8x512x512 (constantI S_ 32 0#32)))

/-- The classes to look up: a negative one counted from the end. -/
def rows (l : Labels) : IVec S8x1x512x512x1 32 :=
  shapeCast S8x1x512x512x1 (select (cmpi .slt (safe l) (broadcastInDim S8x1x512x512 ![] bcast_S_S8x1x512x512 (constantI S_ 32 0#32)))
    (addi (safe l) (broadcastInDim S8x1x512x512 ![] bcast_S_S8x1x512x512 (constantI S_ 32 19#32))) (safe l))
    shapeCasts_S8x1x512x512_S8x1x512x512x1

/-- Where an array of looked-up classes holds one of the nineteen. -/
def between (w : IVec S8x1x512x512x1 32) : IVec S8x1x512x512 1 :=
  Host.reduce IntOp.andi (andi
    (cmpi .sge w (broadcastInDim S8x1x512x512x1 ![] bcast_S_S8x1x512x512x1 (constantI S_ 32 0#32)))
    (cmpi .sle w (broadcastInDim S8x1x512x512x1 ![0, 1, 2, 3, 4] bcast_S1x1x1x1x1_S8x1x512x512x1_0_1_2_3_4
      (broadcastInDim S1x1x1x1x1 ![4] bcast_S1_S1x1x1x1x1_4 (constantI S1 32 18#32)))))
    (constantI S_ 1 1#1) reducesTo_S8x1x512x512x1_S8x1x512x512_d4 h_S_

/-- Where the class to look up is one of the nineteen. -/
def inRange (l : Labels) : IVec S8x1x512x512 1 := between (rows l)

/-- The log-probability of each pixel's class. -/
def gathered (x : Logits) (l : Labels) : FVec Ideal S8x1x512x512 .f32 :=
  Host.gather gather_S8x19x512x512_S8x1x512x512x1_S8x1x512x512_n_1_023_023_1_4_1111 (logSoftmax x) (rows l)

/-- The values looked up, negated where the lookup is good and the label counts, zero where the label is the ignored one. -/
def settle (l : Labels) (ok : IVec S8x1x512x512 1) (g : FVec Ideal S8x1x512x512 .f32) : FVec Ideal S8x512x512 .f32 :=
  select (valid l)
    (Host.negf (shapeCast S8x512x512
      (select ok g (broadcastInDim S8x1x512x512 ![] bcast_S_S8x1x512x512 (constant S_ .f32 0x7FC00000#32)))
      shapeCasts_S8x1x512x512_S8x512x512))
    (broadcastInDim S8x512x512 ![] bcast_S_S8x512x512 (constant S_ .f32 0x00000000#32))

/-- The loss of each pixel: the log-probability negated, zero where the label is the ignored one. -/
def losses (x : Logits) (l : Labels) : FVec Ideal S8x512x512 .f32 := settle l (inRange l) (gathered x l)

/-- The mean of the 524288 largest of an array of losses: sorted by their negatives, the first quarter kept, summed and
    divided by the number kept. -/
def mean (w : FVec Ideal S8x512x512 .f32) : FVec Ideal S_ .f32 :=
  Host.divf (Host.reduceAdd (extractStridedSlice S524288 ![0] (Host.negf (Host.sort S2097152 0 comparator_f32_d0
    (Host.negf (shapeCast S2097152 w shapeCasts_S8x512x512_S2097152)))) slices_S2097152_S524288_0)
    (constant S_ .f32 0x00000000#32) reducesTo_S524288_S_d0 h_S_) (constant S_ .f32 0x49000000#32)

end Cert.ReferenceIdeal.Gen

end
-- ==== Proof.Tail.lean ====
/- What the kernel leaves in its result: the mean of the greatest quarter of the array of losses. -/
module

public import proofs.«01_k».proof.Proof.Array
public import proofs.«01_k».proof.Proof.RefArrays
public import Idealize.ShloMosaic.Lib.Claim

@[expose] public section

set_option maxRecDepth 16384

noncomputable section

namespace Cert.KernelIdeal.Gen

open Idealize.ShloMosaic Idealize.ShloMosaic.TcCoe Idealize.SL.Sem Idealize.ShloMosaic.Pipeline

/-- The operations after the launch, from any contents of the array of losses: the mean of its greatest quarter. -/
theorem tail_eq (W : Valuation τ sig (Elt Ideal)) :
    StableHlo.after ([hostOps1, hostOps1_1, hostOps1_2] : List (List (HloOp τ sig (Elt Ideal)))).flatten W (Proc.devRef .tc main_v7)
      = Cert.ReferenceIdeal.Gen.mean (W (Proc.devRef .tc main_v0)) := by
  simp only [hostOps1, hostOps1_1, hostOps1_2, List.flatten_cons, List.flatten_nil, List.cons_append, List.nil_append, List.append_nil]
  after_results
  rfl

/-- The kernel runs to the end, leaves its arguments as they were, and its result is the mean of the greatest quarter of
    the losses of the pixels. -/
theorem run_mean (m : (ℓ : Loc nD τ sig) → Buf (Elt Ideal) ℓ) (ρ : Dev nD → PrngReg) :
    θ_run (defs (F := Ideal)) (onTc (main (F := Ideal))) ⟨m, fun _ => 0, ρ⟩ (fun r => ∀ c : Dev nD,
      r.2.mem ((c : Thread nD τ).loc main_v7)
        = Cert.ReferenceIdeal.Gen.mean (lossArray (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)) := by
  run_from Gen.run_main m ρ
  unfold afterTail₀
  rw [tail_eq, ← array_eq m c]
  exact congrArg Cert.ReferenceIdeal.Gen.mean
    (withArrays_arr (cfgs 0).spec launch0.win.arr_inj c (V0 m c) (fun w => (dats (F := Ideal) m 0 c).arrAt w (cfgs 0).N) 2)

end Cert.KernelIdeal.Gen

end
-- ==== Proof.RefTerm.lean ====
/- The reference's run gives the chain of the arrays that RefArrays.lean names. -/
module

public import proofs.«01_k».proof.Proof.RefArrays
public import proofs.«01_k».proof.Proof.Gen.ReferenceIdeal.Run

@[expose] public section

set_option maxRecDepth 16384

noncomputable section

namespace Cert.ReferenceIdeal.Gen

open Idealize.ShloMosaic

open Idealize.ShloMosaic.TcCoe Idealize.SL.Sem in
/-- The reference's composed term is the chain of the arrays named above. -/
theorem res_eq (m : (ℓ : Loc nD τ sig) → Buf (Elt Ideal) ℓ) (c : Dev nD) :
    Value.res_out0 m c = mean (losses (m ((c.tc : Thread nD τ).loc main_arg0)) (m ((c.tc : Thread nD τ).loc main_arg1))) := by
  rfl

end Cert.ReferenceIdeal.Gen

end
-- ==== Proof.Gather.lean ====
/- The reference looks a pixel's label up in the array of log-probabilities by a gather. This file reads that gather at
   one pixel. -/
module

public import proofs.«01_k».proof.Proof.Gen.ReferenceIdeal
public import Idealize.ShloMosaic.Lib.Pointwise

@[expose] public section

noncomputable section

namespace Cert.ReferenceIdeal.Gen

open Idealize.ShloMosaic

/-- The gather's dimension numbers, by a short name. -/
abbrev lookup := gather_S8x19x512x512_S8x1x512x512x1_S8x1x512x512_n_1_023_023_1_4_1111

/-- On the three axes that the operand and the label array share, the gather reads the operand at the pixel itself. -/
theorem lookup_shared (idx : IVec S8x1x512x512x1 32) (y : S8x1x512x512.Idx) (a : Fin 4) (ha : a ∈ lookup.operandBatchingDims) :
    ((lookup.operandIdx y idx) a : Nat) = lookup.batchCoord y a := by
  show lookup.start y idx a + lookup.batchCoord y a + lookup.offCoord y a = _
  rw [GatherDims.start_batching _ _ _ _ ha,
    GatherDims.offCoord_eq_zero _ _ _ (fun h => ((GatherDims.mem_sKept _ _).mp h).2 ha), Nat.zero_add, Nat.add_zero]

/-- On the class axis the gather reads the operand at the start index, read signed and clamped to the nineteen classes. -/
theorem lookup_class (idx : IVec S8x1x512x512x1 32) (i : Fin 8) (p q : Fin 512) :
    ((lookup.operandIdx (ix4 i 0 p q) idx) (1 : Fin 4) : Nat) = min (idx (ix5 i 0 p q 0)).toInt.toNat 18 := by
  show lookup.start (ix4 i 0 p q) idx 1 + lookup.batchCoord (ix4 i 0 p q) 1 + lookup.offCoord (ix4 i 0 p q) 1 = _
  have hb : (1 : Fin 4) ∉ lookup.operandBatchingDims := by decide
  have hc : (1 : Fin 4) ∈ lookup.collapsedSliceDims := by decide
  have hs : (1 : Fin 4) ∈ lookup.startIndexMap := by decide
  rw [GatherDims.batchCoord_eq_zero _ _ _ hb,
    GatherDims.offCoord_eq_zero _ _ _ (fun h => ((GatherDims.mem_sKept _ _).mp h).1 hc), Nat.add_zero]
  unfold GatherDims.start
  rw [dif_pos hs]
  have hi : lookup.siIdx (ix4 i 0 p q) ⟨List.idxOf (1 : Fin 4) lookup.startIndexMap, List.idxOf_lt_length_iff.2 hs⟩
      = ix5 i 0 p q 0 := by
    funext b; refine Fin.ext ?_
    match b with
    | ⟨0, _⟩ => rfl
    | ⟨1, _⟩ => rfl
    | ⟨2, _⟩ => rfl
    | ⟨3, _⟩ => rfl
    | ⟨4, _⟩ => rfl
  rw [hi]
  rfl

/-- The gather at a pixel: the operand at that pixel, in the class that the start index names, clamped to the nineteen. -/
theorem lookup_at {α : Type} (x : S8x19x512x512.Idx → α) (idx : IVec S8x1x512x512x1 32) (i : Fin 8) (p q : Fin 512) :
    Host.gather lookup x idx (ix4 i 0 p q)
      = x (ix4 i ⟨min (idx (ix5 i 0 p q 0)).toInt.toNat 18, by omega⟩ p q) := by
  unfold Host.gather
  congr 1
  funext a
  refine Fin.ext ?_
  match a with
  | ⟨0, _⟩ =>
    refine (lookup_shared idx _ 0 (by decide)).trans ?_
    unfold GatherDims.batchCoord
    rw [dif_pos (show (0 : Fin 4) ∈ lookup.operandBatchingDims by decide)]
    rfl
  | ⟨1, _⟩ => exact lookup_class idx i p q
  | ⟨2, _⟩ =>
    refine (lookup_shared idx _ 2 (by decide)).trans ?_
    unfold GatherDims.batchCoord
    rw [dif_pos (show (2 : Fin 4) ∈ lookup.operandBatchingDims by decide)]
    rfl
  | ⟨3, _⟩ =>
    refine (lookup_shared idx _ 3 (by decide)).trans ?_
    unfold GatherDims.batchCoord
    rw [dif_pos (show (3 : Fin 4) ∈ lookup.operandBatchingDims by decide)]
    rfl

end Cert.ReferenceIdeal.Gen

end
-- ==== Proof.Ref.lean ====
/- The reference's arrays read at one pixel: the array of losses there is the mathematics of one pixel (Pixel.lean). -/
module

public import proofs.«01_k».proof.Proof.RefArrays
public import proofs.«01_k».proof.Proof.Gather
public import proofs.«01_k».proof.Proof.Pixel

@[expose] public section

set_option maxRecDepth 16384

noncomputable section

namespace Cert.ReferenceIdeal.Gen

open Idealize.ShloMosaic

/-- A pixel's maximum is the maximum of its nineteen logits. -/
theorem rowMax_at (x : Logits) (i : Fin 8) (a b : Fin 512) :
    rowMax x (ix3 i a b) = Finset.univ.fold max (Ideal.ofBits .f32 0xFF800000#32) (fun k : Fin 19 => x (ix4 i k a b)) := by
  pointwise [rowMax]

/-- The comparison with −∞, at a pixel. -/
theorem peak_at (r : FVec Ideal S8x512x512 .f32) (i : Fin 8) (a b : Fin 512) :
    peak r (ix3 i a b) = max (Ideal.ofBits .f32 0xFF800000#32) (r (ix3 i a b)) := by
  pointwise [peak]

/-- A logit less its pixel's entry. -/
theorem less_at (x : Logits) (r : FVec Ideal S8x512x512 .f32) (i : Fin 8) (k : Fin 19) (a b : Fin 512) :
    less x r (ix4 i k a b) = x (ix4 i k a b) - r (ix3 i a b) := by
  pointwise [less, spread]

/-- The shifted logits at a pixel and a class. -/
theorem shifted_at (x : Logits) (i : Fin 8) (k : Fin 19) (a b : Fin 512) :
    shifted x (ix4 i k a b) = x (ix4 i k a b) - Pixel.refTop (fun j => x (ix4 i j a b)) := by
  rw [shifted, less_at, peak_at, rowMax_at, Pixel.refTop]

/-- The normalisation at a pixel and a class. -/
theorem normalised_at (y : Logits) (i : Fin 8) (k : Fin 19) (a b : Fin 512) :
    normalised y (ix4 i k a b) = y (ix4 i k a b) - Ideal.log (∑ j : Fin 19, Ideal.exp (y (ix4 i j a b))) := by
  pointwise [normalised]

/-- The log-softmax at a pixel and a class. -/
theorem logSoftmax_at (x : Logits) (i : Fin 8) (k : Fin 19) (a b : Fin 512) :
    logSoftmax x (ix4 i k a b) = Pixel.logProb (fun j => x (ix4 i j a b)) k := by
  rw [logSoftmax, normalised_at, Pixel.logProb]
  simp only [shifted_at]

/-- The class looked up at a pixel. -/
theorem rows_at (l : Labels) (i : Fin 8) (a b : Fin 512) : rows l (ix5 i 0 a b 0) = Pixel.classOf (l (ix3 i a b)) := by
  pointwise [rows, safe, valid, Pixel.classOf, Pixel.safeLabel]

/-- The range test of any array of classes, as a conjunction over an axis of one element. -/
theorem between_at (w : IVec S8x1x512x512x1 32) (i : Fin 8) (a b : Fin 512) :
    between w (ix4 i 0 a b) = Finset.fold IntOp.andi (1#1) (fun x : Fin 1 =>
      IntOp.andi (IntOp.cmpi .sge (w (ix5 i 0 a b x)) 0#32) (IntOp.cmpi .sle (w (ix5 i 0 a b x)) 18#32)) Finset.univ := by
  pointwise [between]

/-- The range test at a pixel. -/
theorem inRange_at (l : Labels) (i : Fin 8) (a b : Fin 512) :
    inRange l (ix4 i 0 a b) = Pixel.classInRange (l (ix3 i a b)) := by
  rw [inRange, between_at, Finset.univ_unique, Finset.fold_singleton, Fin.default_eq_zero, rows_at, Pixel.classInRange]
  generalize IntOp.cmpi .sge (Pixel.classOf (l (ix3 i a b))) 0#32 = p
  generalize IntOp.cmpi .sle (Pixel.classOf (l (ix3 i a b))) 18#32 = q
  revert p q; decide

/-- The log-probability looked up at a pixel. -/
theorem gathered_at (x : Logits) (l : Labels) (i : Fin 8) (a b : Fin 512) :
    gathered x l (ix4 i 0 a b)
      = Pixel.logProb (fun j => x (ix4 i j a b)) ⟨min (Pixel.classOf (l (ix3 i a b))).toInt.toNat 18, by omega⟩ := by
  rw [gathered, lookup_at, logSoftmax_at]
  simp only [rows_at]

/-- The settled value of any looked-up array, at a pixel. -/
theorem settle_at (l : Labels) (ok : IVec S8x1x512x512 1) (g : FVec Ideal S8x1x512x512 .f32) (i : Fin 8) (a b : Fin 512) :
    settle l ok g (ix3 i a b) = Scalar.select (IntOp.cmpi .ne (l (ix3 i a b)) 255#32)
      (-Scalar.select (ok (ix4 i 0 a b)) (g (ix4 i 0 a b)) (Ideal.ofBits .f32 0x7FC00000#32)) 0 := by
  pointwise [settle, valid]

/-- The array of losses at a pixel is the reference's formula of the pixel's nineteen logits and its label. -/
theorem losses_at (x : Logits) (l : Labels) (i : Fin 8) (a b : Fin 512) :
    losses x l (ix3 i a b)
      = Pixel.refLoss (Ideal.ofBits .f32 0x7FC00000#32) (fun k => x (ix4 i k a b)) (l (ix3 i a b)) := by
  rw [losses, settle_at, inRange_at, gathered_at, Pixel.refLoss]

end Cert.ReferenceIdeal.Gen

end
-- ==== Proof.Finite.lean ====
/- What the precondition says of one pixel: every logit is a real number, and the label is one of the nineteen classes or the
   ignored 255. -/
module

public import proofs.«01_k».proof.Proof.Gen.Pre_classes_or_ignored
public import Idealize.ShloMosaic.PureOps.Ideal
public import Idealize.ShloMosaic.Lib.ReduceAll
public import Idealize.ShloMosaic.Lib.StableHlo.Predicate
public import Idealize.ShloMosaic.Lib.Pointwise

@[expose] public section

noncomputable section

namespace Cert.Pre_classes_or_ignored.Gen

open Idealize.ShloMosaic

/-- The shape without axes has one index. -/
theorem one_index : ∀ i j : S_.Idx, i = j := fun i j => funext fun a => a.elim0

/-- The bit pattern of +∞ is read as +∞. -/
theorem infinity : Ideal.ofBits .f32 0x7F800000#32 = (⊤ : EReal) := by
  simp [Ideal.ofBits, Ideal.ieee]

/-- A number of absolute value below +∞ is neither +∞ nor −∞. -/
theorem real_of_abs_lt (v : EReal) (h : max v (-v) < ⊤) : v ≠ ⊤ ∧ v ≠ ⊥ := by
  constructor
  · rintro rfl; simp at h
  · rintro rfl; simp at h

/-- A label from 0 to 18 in signed order is the word of one of the nineteen classes. -/
theorem class_of_bounds (l : BitVec 32) (h0 : (0#32).sle l = true) (h1 : l.slt 19#32 = true) :
    ∃ k : Fin 19, l = BitVec.ofNat 32 k := by
  have a : 0 ≤ l.toInt := by simpa [BitVec.sle] using h0
  have b : l.toInt < 19 := by simpa [BitVec.slt] using h1
  have c : l.toNat < 19 := by
    rw [BitVec.toInt_eq_toNat_cond] at a b
    have := l.isLt
    split at a <;> omega
  exact ⟨⟨l.toNat, c⟩, by simp⟩

variable [Facts]

/-- Under the precondition every logit is a real number. -/
theorem real_logits (x : FVec Ideal S8x19x512x512 .f32) (l : IVec S8x512x512 32) (h : fn (F := Ideal) x l = fun _ => 1#1)
    (j : S8x19x512x512.Idx) : x j ≠ ⊤ ∧ x j ≠ ⊥ := by
  haveI : Subsingleton S_.Idx := ⟨one_index⟩
  have e := congrFun h ix0
  obtain ⟨p, -⟩ := IntOp.andi_eq_one.1 e
  have q := Host.reduce_andi_all _ _ _ _ _ p j
  have r := (StableHlo.Predicate.ofBool_eq_one_iff _).1 q
  refine real_of_abs_lt (x j) ?_
  rw [← infinity]
  exact of_decide_eq_true r

/-- Under the precondition every label is a class or the ignored one. -/
theorem class_or_ignored (x : FVec Ideal S8x19x512x512 .f32) (l : IVec S8x512x512 32) (h : fn (F := Ideal) x l = fun _ => 1#1)
    (j : S8x512x512.Idx) : (∃ k : Fin 19, l j = BitVec.ofNat 32 k) ∨ l j = 255#32 := by
  haveI : Subsingleton S_.Idx := ⟨one_index⟩
  have e := congrFun h ix0
  obtain ⟨-, p⟩ := IntOp.andi_eq_one.1 e
  have q := Host.reduce_andi_all _ _ _ _ _ p j
  rcases IntOp.ori_eq_one.1 q with r | r
  · obtain ⟨u, v⟩ := IntOp.andi_eq_one.1 r
    exact .inl (class_of_bounds (l j) ((StableHlo.Predicate.ofBool_eq_one_iff _).1 u) ((StableHlo.Predicate.ofBool_eq_one_iff _).1 v))
  · exact .inr (StableHlo.Predicate.cmpi_eq_iff.1 r)

end Cert.Pre_classes_or_ignored.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_classes_or_ignored
public import proofs.«01_k».proof.Proof.Tail
public import proofs.«01_k».proof.Proof.RefTerm
public import proofs.«01_k».proof.Proof.Ref
public import proofs.«01_k».proof.Proof.Finite
public import Idealize.ShloMosaic.Lib.StableHlo.RunHlo
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.TcCoe

/-- Where every logit is a real number and every label a class or the ignored one, the kernel's array of losses and the
    reference's are the same array. -/
theorem losses_eq (x : Cert.ReferenceIdeal.Gen.Logits) (l : Cert.ReferenceIdeal.Gen.Labels)
    (hx : ∀ j, x j ≠ ⊤ ∧ x j ≠ ⊥) (hl : ∀ j, (∃ k : Fin 19, l j = BitVec.ofNat 32 k) ∨ l j = 255#32) :
    Cert.KernelIdeal.Gen.lossArray x l = Cert.ReferenceIdeal.Gen.losses x l := by
  funext j
  obtain ⟨i, a, b, rfl⟩ : ∃ (i : Fin 8) (a b : Fin 512), j = ix3 i a b := ⟨j 0, j 1, j 2, eq_ix3 j⟩
  rw [Cert.ReferenceIdeal.Gen.losses_at]
  exact Pixel.agree _ _ _ (fun k => hx _) (hl _)

/-- The reference runs to the end, leaves its arguments as they were, and every semaphore counter ends at zero. -/
theorem reference_quiet : Cert.quiescent_ReferenceIdeal (hReferenceIdeal := Cert.ReferenceIdeal.Gen.facts) := by
  intro m g _
  exact θ_run_mono (Cert.ReferenceIdeal.Value.run m g) fun r h =>
    ⟨fun c => ⟨(h c).2.1, (h c).2.2⟩, sem_eq_zero_of_no_sems (by decide) r.2⟩

/-- Under the precondition the kernel's result is the reference's. -/
theorem same_mean : Cert.algebraic_KernelIdeal_ReferenceIdeal_pre_classes_or_ignored (hKernelIdeal := Cert.KernelIdeal.Gen.facts)
    (hReferenceIdeal := Cert.ReferenceIdeal.Gen.facts) (hPre_classes_or_ignored := Cert.Pre_classes_or_ignored.Gen.facts) := by
  letI := Cert.Pre_classes_or_ignored.Gen.facts
  intro m g m' g' hpre hagree
  refine ⟨fun c => Cert.ReferenceIdeal.Gen.mean (Cert.KernelIdeal.Gen.lossArray
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))),
    Cert.KernelIdeal.Gen.run_mean m g, ?_⟩
  refine θ_run_mono (Cert.ReferenceIdeal.Value.run m' g') fun r h c => ⟨(h c).1.trans ?_, (h c).2⟩
  refine (Cert.ReferenceIdeal.Gen.res_eq m' c).trans (congrArg Cert.ReferenceIdeal.Gen.mean ?_)
  rw [(hagree c).1, (hagree c).2]
  exact (losses_eq _ _ (Cert.Pre_classes_or_ignored.Gen.real_logits _ _ (hpre c))
    (Cert.Pre_classes_or_ignored.Gen.class_or_ignored _ _ (hpre c))).symm

/-- Everything claimed: the three frames, that the rewriting preserves the program, and that the results are equal. -/
theorem claim : Cert.Claim := ⟨Cert.Kernel.Gen.facts, Cert.KernelIdeal.Gen.facts, Cert.ReferenceIdeal.Gen.facts, Cert.Pre_classes_or_ignored.Gen.facts,
  fun m g _ => Cert.Kernel.Gen.frame m g, fun m g _ => Cert.KernelIdeal.Gen.frame m g, fun m g _ => Cert.KernelIdeal.Gen.frame m g,
  reference_quiet, fun m g _ => reference_quiet m g trivial, trivial, same_mean⟩

end Cert.Proof

end
